-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_statistics [hPre_statistics : Cert.Pre_statistics.Facts] (m : (ℓ : Loc Cert.KernelIdeal.nD Cert.KernelIdeal.τ Cert.KernelIdeal.sig) → Buf (Elt Ideal) ℓ) : Prop :=
  ∀ c : Dev Cert.KernelIdeal.nD,
    (Cert.Pre_statistics.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_statistics [hPre_statistics : Cert.Pre_statistics.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_statistics.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_statistics [hKernelIdeal : Cert.KernelIdeal.Facts] [hPre_statistics : Cert.Pre_statistics.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_statistics m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_statistics [hReferenceIdeal : Cert.ReferenceIdeal.Facts] [hPre_statistics : Cert.Pre_statistics.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_statistics m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_statistics [hKernelIdeal : Cert.KernelIdeal.Facts] [hReferenceIdeal : Cert.ReferenceIdeal.Facts] [hPre_statistics : Cert.Pre_statistics.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_statistics m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_statistics : Cert.Pre_statistics.Facts),
    quiescent_Kernel (hKernel := hKernel)
    ∧ quiescent_KernelIdeal (hKernelIdeal := hKernelIdeal)
    ∧ quiescent_KernelIdeal_pre_statistics (hKernelIdeal := hKernelIdeal) (hPre_statistics := hPre_statistics)
    ∧ quiescent_ReferenceIdeal (hReferenceIdeal := hReferenceIdeal)
    ∧ quiescent_ReferenceIdeal_pre_statistics (hReferenceIdeal := hReferenceIdeal) (hPre_statistics := hPre_statistics)
    ∧ preserves_Kernel_KernelIdeal
    ∧ algebraic_KernelIdeal_ReferenceIdeal_pre_statistics (hKernelIdeal := hKernelIdeal) (hReferenceIdeal := hReferenceIdeal) (hPre_statistics := hPre_statistics)
-- ==== Pre_statistics.lean ====
abbrev S8x96x32x32 : Shape := ⟨4, ![8, 96, 32, 32]⟩
abbrev S1024x96x3x3 : Shape := ⟨4, ![1024, 96, 3, 3]⟩
abbrev S1024 : Shape := ⟨1, ![1024]⟩
abbrev S425x1024x1x1 : Shape := ⟨4, ![425, 1024, 1, 1]⟩
abbrev S425 : Shape := ⟨1, ![425]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S8x96x32x32 .f32) (main_arg1 : FVec F S1024x96x3x3 .f32) (main_arg2 : FVec F S1024 .f32) (main_arg3 : FVec F S1024 .f32) (main_arg4 : FVec F S1024 .f32) (main_arg5 : FVec F S1024 .f32) (main_arg6 : FVec F S425x1024x1x1 .f32) (main_arg7 : FVec F S425 .f32) : IVec S_ 1 :=
  let main_v0 : FVec F S1024 .f32 := Host.absf main_arg4
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_cst_2 : FVec F S_ .f32 := constant S_ .f32 0x3727C5AC#32
  let main_v9 : FVec F S1024 .f32 := broadcastInDim S1024 ![] bcast_S_S1024 main_cst_2
  let main_v10 : FVec F S1024 .f32 := addf main_arg5 main_v9
  let main_cst_3 : FVec F S_ .f32 := constant S_ .f32 0x00000000#32
  let main_v11 : FVec F S1024 .f32 := broadcastInDim S1024 ![] bcast_S_S1024 main_cst_3
  let main_v12 : IVec S1024 1 := cmpf .ogt main_v10 main_v11
  let main_c_4 : IVec S_ 1 := constantI S_ 1 1#1
  let main_v13 : IVec S_ 1 := (fun x v => Host.reduce IntOp.andi x v reducesTo_S1024_S_d0 h_S_) main_v12 main_c_4
  let main_v14 : IVec S_ 1 := andi main_v8 main_v13
  main_v14
-- ==== Kernel.lean ====
abbrev S8x96x32x32 : Shape := ⟨4, ![8, 96, 32, 32]⟩
abbrev S1024x96x3x3 : Shape := ⟨4, ![1024, 96, 3, 3]⟩
abbrev S1024 : Shape := ⟨1, ![1024]⟩
abbrev S425x1024x1x1 : Shape := ⟨4, ![425, 1024, 1, 1]⟩
abbrev S425 : Shape := ⟨1, ![425]⟩
abbrev S8x32x32x96 : Shape := ⟨4, ![8, 32, 32, 96]⟩
abbrev S_ : Shape := ⟨0, ![]⟩
abbrev S8x34x34x96 : Shape := ⟨4, ![8, 34, 34, 96]⟩
abbrev S8x34x32x96 : Shape := ⟨4, ![8, 34, 32, 96]⟩
abbrev S8x1x34x32x96 : Shape := ⟨5, ![8, 1, 34, 32, 96]⟩
abbrev S8x3x34x32x96 : Shape := ⟨5, ![8, 3, 34, 32, 96]⟩
abbrev S3x3x96x1024 : Shape := ⟨4, ![3, 3, 96, 1024]⟩
abbrev S864x1024 : Shape := ⟨2, ![864, 1024]⟩
abbrev S425x1024 : Shape := ⟨2, ![425, 1024]⟩
abbrev S1024x425 : Shape := ⟨2, ![1024, 425]⟩
abbrev S1x1024 : Shape := ⟨2, ![1, 1024]⟩
abbrev S1x425 : Shape := ⟨2, ![1, 425]⟩
abbrev S8x32x32x425 : Shape := ⟨4, ![8, 32, 32, 425]⟩
abbrev S2x3x34x32x96 : Shape := ⟨5, ![2, 3, 34, 32, 96]⟩
abbrev S2x32x32x425 : Shape := ⟨4, ![2, 32, 32, 425]⟩
abbrev S1x1x32x32x96 : Shape := ⟨5, ![1, 1, 32, 32, 96]⟩
abbrev S32x32x96 : Shape := ⟨3, ![32, 32, 96]⟩
abbrev S1024x96 : Shape := ⟨2, ![1024, 96]⟩
abbrev S1024x864 : Shape := ⟨2, ![1024, 864]⟩
abbrev S2048x864 : Shape := ⟨2, ![2048, 864]⟩
abbrev S2048x1024 : Shape := ⟨2, ![2048, 1024]⟩
abbrev S2048x425 : Shape := ⟨2, ![2048, 425]⟩

abbrev nBuf : Space → Nat
  | .hbm => 32
  | .vmem => 11
  | .smem => 0
  | _ => 0

abbrev bufTy : (tb : Table) → Fin (tcTables nBuf tb) → BufTy
  | .hbm, ⟨0, _⟩ => ⟨S8x96x32x32, .f32⟩
  | .hbm, ⟨1, _⟩ => ⟨S1024x96x3x3, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S425x1024x1x1, .f32⟩
  | .hbm, ⟨7, _⟩ => ⟨S425, .f32⟩
  | .hbm, ⟨8, _⟩ => ⟨S8x32x32x96, .f32⟩
  | .hbm, ⟨9, _⟩ => ⟨S_, .i32⟩
  | .hbm, ⟨10, _⟩ => ⟨S_, .f32⟩
  | .hbm, ⟨11, _⟩ => ⟨S8x34x34x96, .f32⟩
  | .hbm, ⟨12, _⟩ => ⟨S8x34x34x96, .bf16⟩
  | .hbm, ⟨13, _⟩ => ⟨S8x34x32x96, .bf16⟩
  | .hbm, ⟨14, _⟩ => ⟨S8x34x32x96, .bf16⟩
  | .hbm, ⟨15, _⟩ => ⟨S8x34x32x96, .bf16⟩
  | .hbm, ⟨16, _⟩ => ⟨S8x1x34x32x96, .bf16⟩
  | .hbm, ⟨17, _⟩ => ⟨S8x1x34x32x96, .bf16⟩
  | .hbm, ⟨18, _⟩ => ⟨S8x1x34x32x96, .bf16⟩
  | .hbm, ⟨19, _⟩ => ⟨S8x3x34x32x96, .bf16⟩
  | .hbm, ⟨20, _⟩ => ⟨S3x3x96x1024, .f32⟩
  | .hbm, ⟨21, _⟩ => ⟨S864x1024, .f32⟩
  | .hbm, ⟨22, _⟩ => ⟨S864x1024, .bf16⟩
  | .hbm, ⟨23, _⟩ => ⟨S425x1024, .f32⟩
  | .hbm, ⟨24, _⟩ => ⟨S1024x425, .f32⟩
  | .hbm, ⟨25, _⟩ => ⟨S1024x425, .bf16⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x425, .f32⟩
  | .hbm, ⟨31, _⟩ => ⟨S8x32x32x425, .f32⟩
  | .local _ .vmem, ⟨0, _⟩ => ⟨S2x3x34x32x96, .bf16⟩
  | .local _ .vmem, ⟨1, _⟩ => ⟨S2x3x34x32x96, .bf16⟩
  | .local _ .vmem, ⟨2, _⟩ => ⟨S864x1024, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1024x425, .bf16⟩
  | .local _ .vmem, ⟨8, _⟩ => ⟨S1x425, .f32⟩
  | .local _ .vmem, ⟨9, _⟩ => ⟨S2x32x32x425, .f32⟩
  | .local _ .vmem, ⟨10, _⟩ => ⟨S2x32x32x425, .f32⟩
  | _, _ => ⟨S8x96x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x3x34x32x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S864x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x425 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x425 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x32x32x425 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8x96x32x32 : Shape := ⟨4, ![8, 96, 32, 32]⟩
abbrev S1024x96x3x3 : Shape := ⟨4, ![1024, 96, 3, 3]⟩
abbrev S1024 : Shape := ⟨1, ![1024]⟩
abbrev S425x1024x1x1 : Shape := ⟨4, ![425, 1024, 1, 1]⟩
abbrev S425 : Shape := ⟨1, ![425]⟩
abbrev S_ : Shape := ⟨0, ![]⟩
abbrev S8x96x34x34 : Shape := ⟨4, ![8, 96, 34, 34]⟩
abbrev S1024x96x1x1 : Shape := ⟨4, ![1024, 96, 1, 1]⟩
abbrev S1024x96 : Shape := ⟨2, ![1024, 96]⟩
abbrev S1024x8x32x32 : Shape := ⟨4, ![1024, 8, 32, 32]⟩
abbrev S8x1024x32x32 : Shape := ⟨4, ![8, 1024, 32, 32]⟩
abbrev S1x1024x1x1 : Shape := ⟨4, ![1, 1024, 1, 1]⟩
abbrev S425x1024 : Shape := ⟨2, ![425, 1024]⟩
abbrev S425x8x32x32 : Shape := ⟨4, ![425, 8, 32, 32]⟩
abbrev S8x425x32x32 : Shape := ⟨4, ![8, 425, 32, 32]⟩
abbrev S1x425x1x1 : Shape := ⟨4, ![1, 425, 1, 1]⟩
abbrev S8x32x32x425 : Shape := ⟨4, ![8, 32, 32, 425]⟩

abbrev nBuf : Space → Nat
  | .hbm => 97
  | .vmem => 0
  | .smem => 0
  | _ => 0

abbrev bufTy : (tb : Table) → Fin (tcTables nBuf tb) → BufTy
  | .hbm, ⟨0, _⟩ => ⟨S8x96x32x32, .f32⟩
  | .hbm, ⟨1, _⟩ => ⟨S1024x96x3x3, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S425x1024x1x1, .f32⟩
  | .hbm, ⟨7, _⟩ => ⟨S425, .f32⟩
  | .hbm, ⟨8, _⟩ => ⟨S_, .i32⟩
  | .hbm, ⟨9, _⟩ => ⟨S_, .f32⟩
  | .hbm, ⟨10, _⟩ => ⟨S8x96x34x34, .f32⟩
  | .hbm, ⟨11, _⟩ => ⟨S8x96x32x32, .f32⟩
  | .hbm, ⟨12, _⟩ => ⟨S1024x96x1x1, .f32⟩
  | .hbm, ⟨13, _⟩ => ⟨S1024x96, .f32⟩
  | .hbm, ⟨14, _⟩ => ⟨S1024x8x32x32, .f32⟩
  | .hbm, ⟨15, _⟩ => ⟨S8x1024x32x32, .f32⟩
  | .hbm, ⟨16, _⟩ => ⟨S_, .f32⟩
  | .hbm, ⟨17, _⟩ => ⟨S8x1024x32x32, .f32⟩
  | .hbm, ⟨18, _⟩ => ⟨S8x1024x32x32, .f32⟩
  | .hbm, ⟨19, _⟩ => ⟨S8x96x32x32, .f32⟩
  | .hbm, ⟨20, _⟩ => ⟨S1024x96x1x1, .f32⟩
  | .hbm, ⟨21, _⟩ => ⟨S1024x96, .f32⟩
  | .hbm, ⟨22, _⟩ => ⟨S1024x8x32x32, .f32⟩
  | .hbm, ⟨23, _⟩ => ⟨S8x1024x32x32, .f32⟩
  | .hbm, ⟨24, _⟩ => ⟨S8x1024x32x32, .f32⟩
  | .hbm, ⟨25, _⟩ => ⟨S8x96x32x32, .f32⟩
  | .hbm, ⟨26, _⟩ => ⟨S1024x96x1x1, .f32⟩
  | .hbm, ⟨27, _⟩ => ⟨S1024x96, .f32⟩
  | .hbm, ⟨28, _⟩ => ⟨S1024x8x32x32, .f32⟩
  | .hbm, ⟨29, _⟩ => ⟨S8x1024x32x32, .f32⟩
  | .hbm, ⟨30, _⟩ => ⟨S8x1024x32x32, .f32⟩
  | .hbm, ⟨31, _⟩ => ⟨S8x96x32x32, .f32⟩
  | .hbm, ⟨32, _⟩ => ⟨S1024x96x1x1, .f32⟩
  | .hbm, ⟨33, _⟩ => ⟨S1024x96, .f32⟩
  | .hbm, ⟨34, _⟩ => ⟨S1024x8x32x32, .f32⟩
  | .hbm, ⟨35, _⟩ => ⟨S8x1024x32x32, .f32⟩
  | .hbm, ⟨36, _⟩ => ⟨S8x1024x32x32, .f32⟩
  | .hbm, ⟨37, _⟩ => ⟨S8x96x32x32, .f32⟩
  | .hbm, ⟨38, _⟩ => ⟨S1024x96x1x1, .f32⟩
  | .hbm, ⟨39, _⟩ => ⟨S1024x96, .f32⟩
  | .hbm, ⟨40, _⟩ => ⟨S1024x8x32x32, .f32⟩
  | .hbm, ⟨41, _⟩ => ⟨S8x1024x32x32, .f32⟩
  | .hbm, ⟨42, _⟩ => ⟨S8x1024x32x32, .f32⟩
  | .hbm, ⟨43, _⟩ => ⟨S8x96x32x32, .f32⟩
  | .hbm, ⟨44, _⟩ => ⟨S1024x96x1x1, .f32⟩
  | .hbm, ⟨45, _⟩ => ⟨S1024x96, .f32⟩
  | .hbm, ⟨46, _⟩ => ⟨S1024x8x32x32, .f32⟩
  | .hbm, ⟨47, _⟩ => ⟨S8x1024x32x32, .f32⟩
  | .hbm, ⟨48, _⟩ => ⟨S8x1024x32x32, .f32⟩
  | .hbm, ⟨49, _⟩ => ⟨S8x96x32x32, .f32⟩
  | .hbm, ⟨50, _⟩ => ⟨S1024x96x1x1, .f32⟩
  | .hbm, ⟨51, _⟩ => ⟨S1024x96, .f32⟩
  | .hbm, ⟨52, _⟩ => ⟨S1024x8x32x32, .f32⟩
  | .hbm, ⟨53, _⟩ => ⟨S8x1024x32x32, .f32⟩
  | .hbm, ⟨54, _⟩ => ⟨S8x1024x32x32, .f32⟩
  | .hbm, ⟨55, _⟩ => ⟨S8x96x32x32, .f32⟩
  | .hbm, ⟨56, _⟩ => ⟨S1024x96x1x1, .f32⟩
  | .hbm, ⟨57, _⟩ => ⟨S1024x96, .f32⟩
  | .hbm, ⟨58, _⟩ => ⟨S1024x8x32x32, .f32⟩
  | .hbm, ⟨59, _⟩ => ⟨S8x1024x32x32, .f32⟩
  | .hbm, ⟨60, _⟩ => ⟨S8x1024x32x32, .f32⟩
  | .hbm, ⟨61, _⟩ => ⟨S8x96x32x32, .f32⟩
  | .hbm, ⟨62, _⟩ => ⟨S1024x96x1x1, .f32⟩
  | .hbm, ⟨63, _⟩ => ⟨S1024x96, .f32⟩
  | .hbm, ⟨64, _⟩ => ⟨S1024x8x32x32, .f32⟩
  | .hbm, ⟨65, _⟩ => ⟨S8x1024x32x32, .f32⟩
  | .hbm, ⟨66, _⟩ => ⟨S8x1024x32x32, .f32⟩
  | .hbm, ⟨67, _⟩ => ⟨S1x1024x1x1, .f32⟩
  | .hbm, ⟨68, _⟩ => ⟨S8x1024x32x32, .f32⟩
  | .hbm, ⟨69, _⟩ => ⟨S8x1024x32x32, .f32⟩
  | .hbm, ⟨70, _⟩ => ⟨S1x1024x1x1, .f32⟩
  | .hbm, ⟨71, _⟩ => ⟨S_, .f32⟩
  | .hbm, ⟨72, _⟩ => ⟨S1x1024x1x1, .f32⟩
  | .hbm, ⟨73, _⟩ => ⟨S1x1024x1x1, .f32⟩
  | .hbm, ⟨74, _⟩ => ⟨S1x1024x1x1, .f32⟩
  | .hbm, ⟨75, _⟩ => ⟨S8x1024x32x32, .f32⟩
  | .hbm, ⟨76, _⟩ => ⟨S8x1024x32x32, .f32⟩
  | .hbm, ⟨77, _⟩ => ⟨S1x1024x1x1, .f32⟩
  | .hbm, ⟨78, _⟩ => ⟨S8x1024x32x32, .f32⟩
  | .hbm, ⟨79, _⟩ => ⟨S8x1024x32x32, .f32⟩
  | .hbm, ⟨80, _⟩ => ⟨S1x1024x1x1, .f32⟩
  | .hbm, ⟨81, _⟩ => ⟨S8x1024x32x32, .f32⟩
  | .hbm, ⟨82, _⟩ => ⟨S8x1024x32x32, .f32⟩
  | .hbm, ⟨83, _⟩ => ⟨S_, .f32⟩
  | .hbm, ⟨84, _⟩ => ⟨S8x1024x32x32, .f32⟩
  | .hbm, ⟨85, _⟩ => ⟨S8x1024x32x32, .i1⟩
  | .hbm, ⟨86, _⟩ => ⟨S_, .f32⟩
  | .hbm, ⟨87, _⟩ => ⟨S8x1024x32x32, .f32⟩
  | .hbm, ⟨88, _⟩ => ⟨S8x1024x32x32, .f32⟩
  | .hbm, ⟨89, _⟩ => ⟨S8x1024x32x32, .f32⟩
  | .hbm, ⟨90, _⟩ => ⟨S425x1024, .f32⟩
  | .hbm, ⟨91, _⟩ => ⟨S425x8x32x32, .f32⟩
  | .hbm, ⟨92, _⟩ => ⟨S8x425x32x32, .f32⟩
  | .hbm, ⟨93, _⟩ => ⟨S1x425x1x1, .f32⟩
  | .hbm, ⟨94, _⟩ => ⟨S8x425x32x32, .f32⟩
  | .hbm, ⟨95, _⟩ => ⟨S8x425x32x32, .f32⟩
  | .hbm, ⟨96, _⟩ => ⟨S8x32x32x425, .f32⟩
  | _, _ => ⟨S8x96x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_0 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_cst_1 : Ref sig .tc := ⟨.hbm, 83, rfl⟩
abbrev main_v71 : Ref sig .tc := ⟨.hbm, 84, rfl⟩
abbrev main_v72 : Ref sig .tc := ⟨.hbm, 85, rfl⟩
abbrev main_cst_2 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩

abbrev nD : Nat := 1
abbrev τ : Topo := Topo.v7x

variable {F : FTy → Type} [FloatOps F]
-- ==== Proof.Norm.lean ====
/-
  Arithmetic of the extended reals behind the folded normalization: the kernel multiplies by one number and adds
  another, the reference subtracts, multiplies twice and adds; and the sum over the 864 columns of an unfolded patch is
  the triple sum over the rows and columns of the 3 x 3 window and the 96 channels.
-/
module

public import Idealize.ShloMosaic.PureOps.Ideal
public import Idealize.ShloMosaic.Lib.Pipeline.ValueKit

@[expose] public section

noncomputable section

namespace Cert.Norm

open Idealize.ShloMosaic
open scoped BigOperators

/-- A product by a real number distributes over the difference of any extended real and a real number. -/
theorem sub_mul_real (a : EReal) (m s : ℝ) : (a - m) * s = a * s - m * s := by
  induction a using EReal.rec with
  | coe r => simp only [← EReal.coe_sub, ← EReal.coe_mul]; congr 1; ring
  | bot =>
    rcases lt_trichotomy s 0 with h | rfl | h
    · simp [EReal.bot_mul_coe_of_neg h, ← EReal.coe_mul]
    · simp
    · simp [EReal.bot_mul_coe_of_pos h, ← EReal.coe_mul]
  | top =>
    rcases lt_trichotomy s 0 with h | rfl | h
    · simp [EReal.top_mul_coe_of_neg h, ← EReal.coe_mul]
    · simp
    · simp [EReal.top_mul_coe_of_pos h, ← EReal.coe_mul]

/-- The folded normalization is the plain one: with mean `m`, scale `g` and reciprocal deviation `r` real numbers, and
    any `a` and `b`. -/
theorem fold_real (a b : EReal) (m g r : ℝ) :
    a * ((g : EReal) * r) + (b - m * ((g : EReal) * r)) = (a - m) * r * g + b := by
  rw [mul_assoc (a - m) (r : EReal) g, mul_comm (r : EReal) g, ← EReal.coe_mul, sub_mul_real, sub_eq_add_neg,
    sub_eq_add_neg, add_comm b, ← add_assoc]

/-- The reciprocal square root of a positive extended real is a real number. -/
theorem rsqrt_real (w : EReal) (hw : 0 < w) : ∃ r : ℝ, Ideal.rsqrt w = (r : EReal) := by
  induction w using EReal.rec with
  | bot => simp at hw
  | top => exact ⟨0, by simp⟩
  | coe x =>
    have hx : 0 < x := by exact_mod_cast hw
    exact ⟨(Real.sqrt x)⁻¹, by rw [Ideal.rsqrt_coe, if_neg (not_lt.mpr hx.le), if_neg hx.ne']⟩

/-- An extended real of absolute value below infinity is a real number. -/
theorem real_of_abs (a : EReal) (h : max a (-a) < ⊤) : ∃ r : ℝ, a = (r : EReal) := by
  induction a using EReal.rec with
  | bot => simp at h
  | top => simp at h
  | coe r => exact ⟨r, rfl⟩

/-- The folded normalization is the plain one: where the mean and the scale are finite and the shifted variance
    is positive. -/
theorem fold_eq (a b m g v : EReal) (hm : max m (-m) < ⊤) (hg : max g (-g) < ⊤)
    (hv : 0 < v + Ideal.ofBits .f32 0x3727C5AC#32) :
    a * (g * Ideal.rsqrt (v + Ideal.ofBits .f32 0x3727C5AC#32))
        + (b - m * (g * Ideal.rsqrt (v + Ideal.ofBits .f32 0x3727C5AC#32)))
      = (a - m) * Ideal.rsqrt (v + Ideal.ofBits .f32 0x3727C5AC#32) * g + b := by
  obtain ⟨r, hr⟩ := rsqrt_real _ hv
  obtain ⟨m', rfl⟩ := real_of_abs m hm
  obtain ⟨g', rfl⟩ := real_of_abs g hg
  rw [hr]
  exact fold_real a b m' g' r

/-- Column `(3 ky + kx) 96 + c` of the unfolded patches: row `ky` and column `kx` of the window, channel `c`. -/
def col (ky kx : Fin 3) (c : Fin 96) : Fin 864 := ⟨(3 * ky + kx) * 96 + c, by omega⟩

/-- The columns of the unfolded patches are the triples (row of the window, column of the window, channel). -/
def colEquiv : (Fin 3 × Fin 3) × Fin 96 ≃ Fin 864 where
  toFun p := col p.1.1 p.1.2 p.2
  invFun j := ((⟨j / 288, by omega⟩, ⟨j / 96 % 3, by omega⟩), ⟨j % 96, by omega⟩)
  left_inv p := by
    obtain ⟨⟨a, b⟩, c⟩ := p
    simp only [col, Prod.mk.injEq, Fin.ext_iff]
    omega
  right_inv j := by
    simp only [col, Fin.ext_iff]
    omega

/-- A sum over the columns of the unfolded patches is the triple sum over the window's rows, its columns and the
    channels. -/
theorem sum_col {M : Type} [AddCommMonoid M] (f : Fin 864 → M) :
    ∑ j, f j = ∑ ky, ∑ kx, ∑ c, f (col ky kx c) := by
  rw [← Equiv.sum_comp colEquiv f, Fintype.sum_prod_type, Fintype.sum_prod_type]
  rfl

end Cert.Norm

end
-- ==== Proof.Block.lean ====
/-
  What one block of the kernel computes, element by element: from a block of two images (each stored as its three
  column-shifted copies), the two weight matrices and the five rows of parameters, the two finished images.
-/
module

public import proofs.«01_k».proof.Proof.Norm
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Block

open Idealize.ShloMosaic Cert.KernelIdeal Cert.KernelIdeal.Gen
open scoped BigOperators

/-! ## The unfolded patches -/

/-- Every window of a block that the kernel loads lies inside the block. -/
theorem inb (i : Fin 2) (n : Fin 9) (a : Fin 5) :
    (![(i : ℕ), n % 3, n / 3, 0, 0] : Fin 5 → ℕ) a + S1x1x32x32x96.size a ≤ S2x3x34x32x96.size a := by
  fin_cases a <;> simp <;> omega

/-- Window `n` of image `i` of a block: the column-shifted copy `n % 3`, from row `n / 3` on, its 1024 positions laid out
    in one column of rows. -/
def tap (X : FVec Ideal S2x3x34x32x96 .bf16) (i : Fin 2) (n : Fin 9) : FVec Ideal S1024x96 .bf16 :=
  shapeCast S1024x96 (shapeCast S32x32x96
    (View.ld (Val := Elt Ideal) (e' := .bf16) X
      (Rect.unit (s := S2x3x34x32x96) ![(i : ℕ), n % 3, n / 3, 0, 0] S1x1x32x32x96.size (inb i n)))
    shapeCasts_S1x1x32x32x96_S32x32x96) shapeCasts_S32x32x96_S1024x96

/-- A window of 32 rows and 32 columns laid out in one column of 1024 rows. -/
theorem fold_apply (v : FVec Ideal S1x1x32x32x96 .bf16) (p : Fin 1024) (c : Fin 96) :
    shapeCast S1024x96 (shapeCast S32x32x96 v shapeCasts_S1x1x32x32x96_S32x32x96) shapeCasts_S32x32x96_S1024x96 (ix2 p c)
      = v (ix5 0 0 ⟨p / 32, by omega⟩ ⟨p % 32, by omega⟩ c) := by
  pointwise

/-- A window read at position `p` and channel `c`. -/
theorem tap_apply (X : FVec Ideal S2x3x34x32x96 .bf16) (i : Fin 2) (n : Fin 9) (p : Fin 1024) (c : Fin 96) :
    tap X i n (ix2 p c) = X (ix5 i ⟨n % 3, by omega⟩ ⟨n / 3 + p / 32, by omega⟩ ⟨p % 32, by omega⟩ c) := by
  unfold tap
  rw [fold_apply]
  refine View.ld_unit_apply_of (Val := Elt Ideal) (e := .bf16) X _ _ _ _ _ fun a => ?_
  fin_cases a <;> simp [ix5]

/-- The nine windows of image `i` side by side, read at column `(3 ky + kx) 96 + c`: window `3 ky + kx` at channel `c`. -/
theorem nine_apply (f : Fin 9 → FVec Ideal S1024x96 .bf16)
    (h : Shape.Concatenates ((List.ofFn fun n : Fin 9 => (⟨S1024x96, f n⟩ : (s : Shape) × (s.Idx → EReal))).map (·.1)) S1024x864 1)
    (p : Fin 1024) (ky kx : Fin 3) (c : Fin 96) :
    concatenate S1024x864 1 (List.ofFn fun n : Fin 9 => (⟨S1024x96, f n⟩ : (s : Shape) × (s.Idx → EReal))) h
      (ix2 p (Norm.col ky kx c)) = f ⟨3 * ky + kx, by omega⟩ (ix2 p c) := by
  refine concatenate_ofFn_apply 1 f h rfl 96 rfl _ _ ?_ _ ?_ ?_
  · show (Norm.col ky kx c : ℕ) / 96 = 3 * ky + kx
    simp only [Norm.col]; omega
  · show (c : ℕ) = (Norm.col ky kx c : ℕ) % 96
    simp only [Norm.col]; omega
  · intro b hb
    fin_cases b
    · rfl
    · exact absurd rfl hb

/-- The unfolded patches of a block: the rows of image 0 above those of image 1. -/
def patches (X : FVec Ideal S2x3x34x32x96 .bf16) (i : Fin 2) : FVec Ideal S1024x864 .bf16 :=
  concatenate S1024x864 1 [⟨S1024x96, tap X i 0⟩, ⟨S1024x96, tap X i 1⟩, ⟨S1024x96, tap X i 2⟩, ⟨S1024x96, tap X i 3⟩,
    ⟨S1024x96, tap X i 4⟩, ⟨S1024x96, tap X i 5⟩, ⟨S1024x96, tap X i 6⟩, ⟨S1024x96, tap X i 7⟩, ⟨S1024x96, tap X i 8⟩]
    concatenates_S1024x96_S1024x96_S1024x96_S1024x96_S1024x96_S1024x96_S1024x96_S1024x96_S1024x96_S1024x864_d1

/-- The unfolded patches of image `i`, read at position `p` and column `(3 ky + kx) 96 + c`. -/
theorem patches_apply (X : FVec Ideal S2x3x34x32x96 .bf16) (i : Fin 2) (p : Fin 1024) (ky kx : Fin 3) (c : Fin 96) :
    patches X i (ix2 p (Norm.col ky kx c)) =
      X (ix5 i kx ⟨ky + p / 32, by omega⟩ ⟨p % 32, by omega⟩ c) := by
  refine ((nine_apply (tap X i) _ p ky kx c).trans (tap_apply X i _ p c)).trans ?_
  have h1 : (3 * (ky : ℕ) + kx) % 3 = kx := by omega
  have h2 : (3 * (ky : ℕ) + kx) / 3 = ky := by omega
  simp only [h1, h2]

/-- The scale of channel `o`. -/
def scale (g v : FVec Ideal S1x1024 .f32) (o : Fin 1024) : EReal :=
  g (ix2 0 o) * Ideal.rsqrt (v (ix2 0 o) + Ideal.ofBits .f32 0x3727C5AC#32)

/-- The two images' patches stacked, multiplied by the first weights and scaled. -/
def scaled (A : Fin 2 → FVec Ideal S1024x864 .bf16) (w : FVec Ideal S864x1024 .bf16) (g v : FVec Ideal S1x1024 .f32) :
    FVec Ideal S2048x1024 .f32 :=
  mulf (matmul dot_S2048x864_S864x1024_S2048x1024_1_0_0_1_n_n none
    (concatenate S2048x864 0 [⟨S1024x864, A 0⟩, ⟨S1024x864, A 1⟩] concatenates_S1024x864_S1024x864_S2048x864_d0)
    (shapeCast S864x1024 w shapeCasts_S864x1024_S864x1024) (constant S2048x1024 .f32 0x00000000#32))
    (broadcastTo S2048x1024 (k0_pay15 (F := Ideal) g v) broadcasts_S1x1024_S2048x1024)

/-- That product read at image `i`, position `p` and channel `o`. -/
theorem scaled_apply (A : Fin 2 → FVec Ideal S1024x864 .bf16) (w : FVec Ideal S864x1024 .bf16)
    (g v : FVec Ideal S1x1024 .f32) (i : Fin 2) (p o : Fin 1024) :
    scaled A w g v (ix2 ⟨i * 1024 + p, by omega⟩ o) = (∑ j, A i (ix2 p j) * w (ix2 j o)) * scale g v o := by
  pointwise [scaled, k0_pay15, scale]
  obtain rfl | rfl : i = 0 ∨ i = 1 := by omega
  · simp
  · simp

/-- The added row: the shift less the scaled mean. -/
theorem pay17_apply (g v b m : FVec Ideal S1x1024 .f32) (p : Fin 2048) (o : Fin 1024) :
    k0_pay17 (F := Ideal) g v b m (ix2 p o) = b (ix2 0 o) - m (ix2 0 o) * scale g v o := by
  pointwise [k0_pay17, k0_pay15, scale]

/-- The rectifier: an extended real that is not negative, or a tenth of it. -/
def leaky (a : EReal) : EReal := if 0 ≤ a then a else Ideal.ofBits .f32 0x3DCCCCCD#32 * a

/-- The last product and its row, read at image `i`, row `y`, column `x`, channel `o`. -/
theorem pay1_apply (a b : FVec Ideal S2048x1024 .f32) (w : FVec Ideal S1024x425 .bf16) (r : FVec Ideal S1x425 .f32)
    (i : Fin 2) (y x : Fin 32) (o : Fin 425) :
    k0_pay1 (F := Ideal) a b w r (ix4 i y x o) =
      (∑ k : Fin 1024, leaky (a (ix2 ⟨i * 1024 + (y * 32 + x), by omega⟩ k) + b (ix2 ⟨i * 1024 + (y * 32 + x), by omega⟩ k))
        * w (ix2 k o)) + r (ix2 0 o) := by
  pointwise [k0_pay1, leaky]
  simp only [Nat.add_assoc]

/-- One block's hidden value at image `i`, row `y`, column `x`, channel `o`: the convolution, scaled and shifted. -/
def hidden (X : FVec Ideal S2x3x34x32x96 .bf16) (w : FVec Ideal S864x1024 .bf16) (g b m v : FVec Ideal S1x1024 .f32)
    (i : Fin 2) (y x : Fin 32) (o : Fin 1024) : EReal :=
  (∑ ky : Fin 3, ∑ kx : Fin 3, ∑ c : Fin 96, X (ix5 i kx ⟨ky + y, by omega⟩ x c) * w (ix2 (Norm.col ky kx c) o)) * scale g v o
    + (b (ix2 0 o) - m (ix2 0 o) * scale g v o)

/-- What the kernel leaves in a block of its result, read at image `i`, row `y`, column `x`, channel `o`. -/
theorem out_apply (X : FVec Ideal S2x3x34x32x96 .bf16) (w : FVec Ideal S864x1024 .bf16) (g b m v : FVec Ideal S1x1024 .f32)
    (w2 : FVec Ideal S1024x425 .bf16) (b2 : FVec Ideal S1x425 .f32) (i : Fin 2) (y x : Fin 32) (o : Fin 425) :
    out0_8 (F := Ideal) X w g b m v w2 b2 (ix4 i y x o) =
      (∑ k : Fin 1024, leaky (hidden X w g b m v i y x k) * w2 (ix2 k o)) + b2 (ix2 0 o) := by
  unfold out0_8
  frame_out
  show k0_pay1 (F := Ideal) (scaled (patches X) w g v) (k0_pay17 (F := Ideal) g v b m) w2 b2 (ix4 i y x o) = _
  rw [pay1_apply]
  congr 1
  refine Finset.sum_congr rfl fun k _ => congrArg (fun a => leaky a * w2 (ix2 k o)) ?_
  have hy : ((y : ℕ) * 32 + x) / 32 = y := by omega
  have hx : ((y : ℕ) * 32 + x) % 32 = x := by omega
  rw [pay17_apply, hidden]
  refine congrArg (· + _) ((scaled_apply (patches X) w g v i ⟨y * 32 + x, by omega⟩ k).trans (congrArg (· * _) ?_))
  rw [Norm.sum_col]
  refine Finset.sum_congr rfl fun ky _ => Finset.sum_congr rfl fun kx _ => Finset.sum_congr rfl fun c _ => ?_
  rw [patches_apply]
  simp only [hy, hx]

end Cert.Block
end
-- ==== Proof.Spec.lean ====
/-
  The mathematics of the problem on plain arrays of extended reals: a 3 x 3 convolution of an image with a border of
  zeros, a normalization by stored statistics, a rectifier, a 1 x 1 convolution with a row added, the channels last.
-/
module

public import proofs.«01_k».proof.Proof.Block

@[expose] public section

noncomputable section

namespace Cert.Spec

open Idealize.ShloMosaic Cert.KernelIdeal
open scoped BigOperators

/-- Image `b`, channel `c`, with one row of zeros above and below and one column of zeros on either side, read at row `Y`
    and column `Z` counted from that border. -/
def padded (X : FVec Ideal S8x96x32x32 .f32) (b : Fin 8) (c : Fin 96) (Y Z : ℕ) : EReal :=
  if h : (1 ≤ Y ∧ Y - 1 < 32) ∧ 1 ≤ Z ∧ Z - 1 < 32 then X (ix4 b c ⟨Y - 1, h.1.2⟩ ⟨Z - 1, h.2.2⟩) else 0

/-- The 3 x 3 convolution at image `b`, output channel `o`, row `y`, column `x`. -/
def conv (X : FVec Ideal S8x96x32x32 .f32) (W : FVec Ideal S1024x96x3x3 .f32) (b : Fin 8) (o : Fin 1024) (y x : Fin 32) : EReal :=
  ∑ ky : Fin 3, ∑ kx : Fin 3, ∑ c : Fin 96, padded X b c (ky + y) (kx + x) * W (ix4 o c ky kx)

/-- The normalization of `a` by the statistics of channel `o`: mean `m`, variance `v`, scale `g`, shift `b`. -/
def normed (g b m v : FVec Ideal S1024 .f32) (a : EReal) (o : Fin 1024) : EReal :=
  (a - m (ix1 o)) * Ideal.rsqrt (v (ix1 o) + Ideal.ofBits .f32 0x3727C5AC#32) * g (ix1 o) + b (ix1 o)

/-- The result: at image `b`, row `y`, column `x`, output channel `o`. -/
def value (X : FVec Ideal S8x96x32x32 .f32) (W : FVec Ideal S1024x96x3x3 .f32) (g b m v : FVec Ideal S1024 .f32)
    (W2 : FVec Ideal S425x1024x1x1 .f32) (r : FVec Ideal S425 .f32) (n : Fin 8) (y x : Fin 32) (o : Fin 425) : EReal :=
  (∑ k : Fin 1024, Block.leaky (normed g b m v (conv X W n k y x) k) * W2 (ix4 o k 0 0)) + r (ix1 o)

/-- The result as an array. -/
def result (X : FVec Ideal S8x96x32x32 .f32) (W : FVec Ideal S1024x96x3x3 .f32) (g b m v : FVec Ideal S1024 .f32)
    (W2 : FVec Ideal S425x1024x1x1 .f32) (r : FVec Ideal S425 .f32) : FVec Ideal S8x32x32x425 .f32 :=
  fun j => value X W g b m v W2 r (j 0) (j 1) (j 2) (j 3)

end Cert.Spec
end
-- ==== Proof.Host.lean ====
/-
  What the arrays prepared before the kernel's launch hold, element by element: the three column-shifted copies of the
  bordered image, the two weight matrices, the rows of parameters.
-/
module

public import proofs.«01_k».proof.Proof.Spec
public import Idealize.ShloMosaic.Lib.StableHlo.ReadAt

@[expose] public section

set_option maxRecDepth 16384

noncomputable section

namespace Cert.Host

open Idealize.ShloMosaic Idealize.ShloMosaic.TcCoe Cert.KernelIdeal Cert.KernelIdeal.Gen
open scoped BigOperators

variable (m : (ℓ : Loc nD τ sig) → Buf (Elt Ideal) ℓ)

/-- The border's value, an integer zero converted, is zero. -/
theorem zero_word : FloatOps.sitofp (F := Ideal) .f32 (0#32) = 0 := by
  show (((0#32 : BitVec 32).toInt : ℝ) : EReal) = 0
  simp

/-- The images: copy `kx` of image `b` is the bordered image from column `kx` on, its channels last. -/
theorem xs_at (c : Dev nD) (b : Fin 8) (kx : Fin 3) (Y : Fin 34) (x : Fin 32) (ch : Fin 96) :
    (V m c main_v9 : FVec Ideal S8x3x34x32x96 .bf16) (ix5 b kx Y x ch)
      = Spec.padded (m ((c : Thread nD τ).loc main_arg0)) b ch Y (kx + x) := by
  unfold V
  simp only [hostOps0, hostOps0_1, hostOps0_2, List.flatten_cons, List.flatten_nil, List.append_nil, List.cons_append, List.nil_append]
  after_reads_at
  after_reads_at
  rw [zero_word]
  unfold Spec.padded
  obtain rfl | rfl | rfl : kx = 0 ∨ kx = 1 ∨ kx = 2 := by omega
  · simp
  · simp
  · simp

/-- The first weights: row `(3 ky + kx) 96 + ch` holds the weights of the window's row `ky`, column `kx`, channel `ch`. -/
theorem w1_at (c : Dev nD) (ky kx : Fin 3) (ch : Fin 96) (o : Fin 1024) :
    (V m c main_v12 : FVec Ideal S864x1024 .bf16) (ix2 (Norm.col ky kx ch) o)
      = (m ((c : Thread nD τ).loc main_arg1) : FVec Ideal S1024x96x3x3 .f32) (ix4 o ch ky kx) := by
  unfold V
  simp only [hostOps0, hostOps0_1, hostOps0_2, List.flatten_cons, List.flatten_nil, List.append_nil, List.cons_append, List.nil_append]
  after_reads_at
  have h1 : (Norm.col ky kx ch : ℕ) % 96 = ch := by simp only [Norm.col]; omega
  have h2 : (Norm.col ky kx ch : ℕ) / 288 = ky := by simp only [Norm.col]; omega
  have h3 : (Norm.col ky kx ch : ℕ) / 96 % 3 = kx := by simp only [Norm.col]; omega
  simp only [h1, h2, h3]

/-- The second weights, transposed. -/
theorem w2_at (c : Dev nD) (k : Fin 1024) (o : Fin 425) :
    (V m c main_v15 : FVec Ideal S1024x425 .bf16) (ix2 k o)
      = (m ((c : Thread nD τ).loc main_arg6) : FVec Ideal S425x1024x1x1 .f32) (ix4 o k 0 0) := by
  unfold V
  simp only [hostOps0, hostOps0_1, hostOps0_2, List.flatten_cons, List.flatten_nil, List.append_nil, List.cons_append, List.nil_append]
  after_reads_at

/-- The scales as one row. -/
theorem gamma_at (c : Dev nD) (o : Fin 1024) :
    (V m c main_v16 : FVec Ideal S1x1024 .f32) (ix2 0 o)
      = (m ((c : Thread nD τ).loc main_arg2) : FVec Ideal S1024 .f32) (ix1 o) := by
  unfold V
  simp only [hostOps0, hostOps0_1, hostOps0_2, List.flatten_cons, List.flatten_nil, List.append_nil, List.cons_append, List.nil_append]
  after_reads_at

/-- The shifts as one row. -/
theorem beta_at (c : Dev nD) (o : Fin 1024) :
    (V m c main_v17 : FVec Ideal S1x1024 .f32) (ix2 0 o)
      = (m ((c : Thread nD τ).loc main_arg3) : FVec Ideal S1024 .f32) (ix1 o) := by
  unfold V
  simp only [hostOps0, hostOps0_1, hostOps0_2, List.flatten_cons, List.flatten_nil, List.append_nil, List.cons_append, List.nil_append]
  after_reads_at

/-- The means as one row. -/
theorem mean_at (c : Dev nD) (o : Fin 1024) :
    (V m c main_v18 : FVec Ideal S1x1024 .f32) (ix2 0 o)
      = (m ((c : Thread nD τ).loc main_arg4) : FVec Ideal S1024 .f32) (ix1 o) := by
  unfold V
  simp only [hostOps0, hostOps0_1, hostOps0_2, List.flatten_cons, List.flatten_nil, List.append_nil, List.cons_append, List.nil_append]
  after_reads_at

/-- The variances as one row. -/
theorem var_at (c : Dev nD) (o : Fin 1024) :
    (V m c main_v19 : FVec Ideal S1x1024 .f32) (ix2 0 o)
      = (m ((c : Thread nD τ).loc main_arg5) : FVec Ideal S1024 .f32) (ix1 o) := by
  unfold V
  simp only [hostOps0, hostOps0_1, hostOps0_2, List.flatten_cons, List.flatten_nil, List.append_nil, List.cons_append, List.nil_append]
  after_reads_at

/-- The last row added. -/
theorem b2_at (c : Dev nD) (o : Fin 425) :
    (V m c main_v20 : FVec Ideal S1x425 .f32) (ix2 0 o)
      = (m ((c : Thread nD τ).loc main_arg7) : FVec Ideal S425 .f32) (ix1 o) := by
  unfold V
  simp only [hostOps0, hostOps0_1, hostOps0_2, List.flatten_cons, List.flatten_nil, List.append_nil, List.cons_append, List.nil_append]
  after_reads_at

end Cert.Host
end
-- ==== Proof.Value.lean ====
/-
  What the kernel's result array holds at the end: the problem's mathematics, where the means and the scales are finite
  and the shifted variances are positive.
-/
module

public import proofs.«01_k».proof.Proof.Host
public import proofs.«01_k».proof.Proof.Gen.KernelIdeal.Value

@[expose] public section

set_option maxRecDepth 16384

noncomputable section

namespace Cert.KernelValue

open Idealize.ShloMosaic Idealize.ShloMosaic.TcCoe Cert.KernelIdeal Cert.KernelIdeal.Gen
open scoped BigOperators

variable (m : (ℓ : Loc nD τ sig) → Buf (Elt Ideal) ℓ)

/-- Which block each window is at, at each step: the images and the result move with the step, the rest stay. -/
theorem idx : ∀ t : Fin cfg0.N, win0_0.index t = ![t.val, 0, 0, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0, 0, 0] ∧ t.val < 4 :=
  (by decide +kernel : ∀ t : Fin grid0.N, _)

/-- Image `i` of the block of step `t`. -/
def img (t : Fin cfg0.N) (i : Fin 2) : Fin 8 := ⟨t.val * 2 + i, by have := (idx t).2.2.2.2.2.2.2.2.2; omega⟩

/-- The statistics under which the two normalizations agree. -/
def Tame (g mean v : FVec Ideal S1024 .f32) : Prop :=
  ∀ o : Fin 1024, max (mean (ix1 o)) (-mean (ix1 o)) < ⊤ ∧ max (g (ix1 o)) (-g (ix1 o)) < ⊤
    ∧ 0 < v (ix1 o) + Ideal.ofBits .f32 0x3727C5AC#32

/-- The block of images at step `t`. -/
theorem images_at (c : Dev nD) (t : Fin cfg0.N) (i : Fin 2) (kx : Fin 3) (Y : Fin 34) (x : Fin 32) (ch : Fin 96) :
    (iblk m c 0 t : FVec Ideal S2x3x34x32x96 .bf16) (ix5 i kx Y x ch)
      = Spec.padded (m ((c : Thread nD τ).loc main_arg0)) (img t i) ch Y (kx + x) := by
  refine Eq.trans ?_ (Host.xs_at m c (img t i) kx Y x ch)
  blk_ext [iblk, idx t, img]

/-- The blocks of the weights and of the rows are whole arrays. -/
theorem w1_blk (c : Dev nD) (t : Fin cfg0.N) (k : Fin 864) (o : Fin 1024) :
    (iblk m c 1 t : FVec Ideal S864x1024 .bf16) (ix2 k o) = (V m c main_v12 : FVec Ideal S864x1024 .bf16) (ix2 k o) := by
  blk_ext [iblk, idx t]
theorem gamma_blk (c : Dev nD) (t : Fin cfg0.N) (o : Fin 1024) :
    (iblk m c 2 t : FVec Ideal S1x1024 .f32) (ix2 0 o) = (V m c main_v16 : FVec Ideal S1x1024 .f32) (ix2 0 o) := by
  blk_ext [iblk, idx t]
theorem beta_blk (c : Dev nD) (t : Fin cfg0.N) (o : Fin 1024) :
    (iblk m c 3 t : FVec Ideal S1x1024 .f32) (ix2 0 o) = (V m c main_v17 : FVec Ideal S1x1024 .f32) (ix2 0 o) := by
  blk_ext [iblk, idx t]
theorem mean_blk (c : Dev nD) (t : Fin cfg0.N) (o : Fin 1024) :
    (iblk m c 4 t : FVec Ideal S1x1024 .f32) (ix2 0 o) = (V m c main_v18 : FVec Ideal S1x1024 .f32) (ix2 0 o) := by
  blk_ext [iblk, idx t]
theorem var_blk (c : Dev nD) (t : Fin cfg0.N) (o : Fin 1024) :
    (iblk m c 5 t : FVec Ideal S1x1024 .f32) (ix2 0 o) = (V m c main_v19 : FVec Ideal S1x1024 .f32) (ix2 0 o) := by
  blk_ext [iblk, idx t]
theorem w2_blk (c : Dev nD) (t : Fin cfg0.N) (k : Fin 1024) (o : Fin 425) :
    (iblk m c 6 t : FVec Ideal S1024x425 .bf16) (ix2 k o) = (V m c main_v15 : FVec Ideal S1024x425 .bf16) (ix2 k o) := by
  blk_ext [iblk, idx t]
theorem b2_blk (c : Dev nD) (t : Fin cfg0.N) (o : Fin 425) :
    (iblk m c 7 t : FVec Ideal S1x425 .f32) (ix2 0 o) = (V m c main_v20 : FVec Ideal S1x425 .f32) (ix2 0 o) := by
  blk_ext [iblk, idx t]

/-- The hidden value of a block that holds the bordered images, the weights and the statistics is the normalized
    convolution. -/
theorem hidden_of (A : FVec Ideal S2x3x34x32x96 .bf16) (B : FVec Ideal S864x1024 .bf16) (G S M R : FVec Ideal S1x1024 .f32)
    (X : FVec Ideal S8x96x32x32 .f32) (W : FVec Ideal S1024x96x3x3 .f32) (g b mean v : FVec Ideal S1024 .f32)
    (n : Fin 8) (i : Fin 2) (y x : Fin 32) (k : Fin 1024) (h : Tame g mean v)
    (hA : ∀ (kx : Fin 3) (Y : Fin 34) (ch : Fin 96), A (ix5 i kx Y x ch) = Spec.padded X n ch Y (kx + x))
    (hB : ∀ (ky kx : Fin 3) (ch : Fin 96), B (ix2 (Norm.col ky kx ch) k) = W (ix4 k ch ky kx))
    (hG : G (ix2 0 k) = g (ix1 k)) (hS : S (ix2 0 k) = b (ix1 k)) (hM : M (ix2 0 k) = mean (ix1 k))
    (hR : R (ix2 0 k) = v (ix1 k)) :
    Block.hidden A B G S M R i y x k = Spec.normed g b mean v (Spec.conv X W n k y x) k := by
  simp only [Block.hidden, Block.scale, hA, hB, hG, hS, hM, hR]
  exact Norm.fold_eq _ _ _ _ _ (h k).1 (h k).2.1 (h k).2.2

/-- The hidden value of a block is the normalized convolution. -/
theorem hidden_at (c : Dev nD) (t : Fin cfg0.N)
    (h : Tame (m ((c : Thread nD τ).loc main_arg2)) (m ((c : Thread nD τ).loc main_arg4)) (m ((c : Thread nD τ).loc main_arg5)))
    (i : Fin 2) (y x : Fin 32) (k : Fin 1024) :
    Block.hidden (iblk m c 0 t) (iblk m c 1 t) (iblk m c 2 t) (iblk m c 3 t) (iblk m c 4 t) (iblk m c 5 t) i y x k
      = Spec.normed (m ((c : Thread nD τ).loc main_arg2)) (m ((c : Thread nD τ).loc main_arg3))
          (m ((c : Thread nD τ).loc main_arg4)) (m ((c : Thread nD τ).loc main_arg5))
          (Spec.conv (m ((c : Thread nD τ).loc main_arg0)) (m ((c : Thread nD τ).loc main_arg1)) (img t i) k y x) k :=
  hidden_of (iblk m c 0 t) (iblk m c 1 t) (iblk m c 2 t) (iblk m c 3 t) (iblk m c 4 t) (iblk m c 5 t) _ _ _ _ _ _
    (img t i) i y x k h (fun kx Y ch => images_at m c t i kx Y x ch)
    (fun ky kx ch => (w1_blk m c t _ k).trans (Host.w1_at m c ky kx ch k))
    ((gamma_blk m c t k).trans (Host.gamma_at m c k)) ((beta_blk m c t k).trans (Host.beta_at m c k))
    ((mean_blk m c t k).trans (Host.mean_at m c k)) ((var_blk m c t k).trans (Host.var_at m c k))

/-- What the kernel leaves in the block of step `t`, read at image `i`, row `y`, column `x`, channel `o`. -/
theorem point (c : Dev nD) (t : Fin cfg0.N)
    (h : Tame (m ((c : Thread nD τ).loc main_arg2)) (m ((c : Thread nD τ).loc main_arg4)) (m ((c : Thread nD τ).loc main_arg5)))
    (i : Fin 2) (y x : Fin 32) (o : Fin 425) :
    out0_8 (F := Ideal) (iblk m c 0 t) (iblk m c 1 t) (iblk m c 2 t) (iblk m c 3 t) (iblk m c 4 t) (iblk m c 5 t)
        (iblk m c 6 t) (iblk m c 7 t) (ix4 i y x o)
      = Spec.value (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (img t i) y x o := by
  refine (Block.out_apply (iblk m c 0 t) (iblk m c 1 t) (iblk m c 2 t) (iblk m c 3 t) (iblk m c 4 t) (iblk m c 5 t)
    (iblk m c 6 t) (iblk m c 7 t) i y x o).trans ?_
  refine congrArg₂ (· + ·) (Finset.sum_congr rfl fun k _ => congrArg₂ (fun a b => Block.leaky a * b) ?_ ?_) ?_
  · exact hidden_at m c t h i y x k
  · exact (w2_blk m c t k o).trans (Host.w2_at m c k o)
  · exact (b2_blk m c t o).trans (Host.b2_at m c o)

/-- The kernel's result array at the end. -/
theorem final (c : Dev nD)
    (h : Tame (m ((c : Thread nD τ).loc main_arg2)) (m ((c : Thread nD τ).loc main_arg4)) (m ((c : Thread nD τ).loc main_arg5))) :
    (dats m 0 c).arrAt 8 cfg0.N = Spec.result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  obtain ⟨i, r, x, o, rfl⟩ : ∃ (i : Fin 2) (r x : Fin 32) (o : Fin 425), y = ix4 i r x o := ⟨y 0, y 1, y 2, y 3, eq_ix4 y⟩
  have e : (win0_8.blk t).view.emb (ix4 i r x o) = ix4 (img t i) r x o := by
    blk_ext [idx t, img]
  exact (point m c t h i r x o).trans (congrArg (Spec.result _ _ _ _ _ _ _ _) e).symm

end Cert.KernelValue
end
-- ==== Proof.Reference.lean ====
/-
  What the reference computes, element by element: the problem's mathematics, for every input.
-/
module

public import proofs.«01_k».proof.Proof.Host
public import proofs.«01_k».proof.Proof.Gen.ReferenceIdeal.Run

@[expose] public section

set_option maxRecDepth 16384

noncomputable section

namespace Cert.RefValue

open Idealize.ShloMosaic Idealize.ShloMosaic.TcCoe Cert.ReferenceIdeal Cert.ReferenceIdeal.Gen Cert.ReferenceIdeal.Value
open scoped BigOperators

/-- Every window of the weights lies inside them. -/
theorem slicesW (ky kx : Fin 3) : S1024x96x3x3.Slices ![0, 0, (ky : ℕ), kx] S1024x96x1x1 := by
  revert ky kx; decide

/-- Every shifted image lies inside the bordered one. -/
theorem slicesX (ky kx : Fin 3) : S8x96x34x34.Slices ![0, 0, (ky : ℕ), kx] S8x96x32x32 := by
  revert ky kx; decide

/-- One of the nine products of the convolution: the weights at row `ky` and column `kx` of the window by the bordered
    images shifted by as much. -/
def product (X : FVec Ideal S8x96x32x32 .f32) (W : FVec Ideal S1024x96x3x3 .f32) (ky kx : Fin 3) : FVec Ideal S8x1024x32x32 .f32 :=
  transpose S8x1024x32x32 [1, 0, 2, 3] (Host.dotGeneral dot_S1024x96_S8x96x32x32_S1024x8x32x32_1_1_0_023_n_n none
    (shapeCast S1024x96 (extractStridedSlice S1024x96x1x1 ![0, 0, (ky : ℕ), kx] W (slicesW ky kx)) shapeCasts_S1024x96x1x1_S1024x96)
    (extractStridedSlice S8x96x32x32 ![0, 0, (ky : ℕ), kx]
      (pad S8x96x34x34 ![0, 0, 1, 1] ![0, 0, 1, 1] ![0, 0, 0, 0] X (sitofp .f32 (constantI S_ 32 0#32))
        pads_S8x96x32x32_S8x96x34x34_000_000_110_110 h_S_) (slicesX ky kx)))
    transposes_S1024x8x32x32_S8x1024x32x32_1_0_2_3

/-- One product read at an index. -/
theorem product_apply (X : FVec Ideal S8x96x32x32 .f32) (W : FVec Ideal S1024x96x3x3 .f32) (ky kx : Fin 3)
    (n : Fin 8) (o : Fin 1024) (y x : Fin 32) :
    product X W ky kx (ix4 n o y x) = ∑ c : Fin 96, Spec.padded X n c (ky + y) (kx + x) * W (ix4 o c ky kx) := by
  pointwise [product]
  refine Finset.sum_congr rfl fun c _ => (mul_comm _ _).trans ?_
  unfold Spec.padded
  rw [Host.zero_word]

/-- The nine products summed, from zero on. -/
def products (X : FVec Ideal S8x96x32x32 .f32) (W : FVec Ideal S1024x96x3x3 .f32) : FVec Ideal S8x1024x32x32 .f32 :=
  addf (addf (addf (addf (addf (addf (addf (addf (addf
    (broadcastInDim S8x1024x32x32 ![] bcast_S_S8x1024x32x32 (constant S_ .f32 0x00000000#32))
    (product X W 0 0)) (product X W 0 1)) (product X W 0 2)) (product X W 1 0)) (product X W 1 1)) (product X W 1 2))
    (product X W 2 0)) (product X W 2 1)) (product X W 2 2)

/-- That sum is the convolution. -/
theorem products_apply (X : FVec Ideal S8x96x32x32 .f32) (W : FVec Ideal S1024x96x3x3 .f32)
    (n : Fin 8) (o : Fin 1024) (y x : Fin 32) : products X W (ix4 n o y x) = Spec.conv X W n o y x := by
  pointwise [products]
  simp only [Spec.conv, Fin.sum_univ_three, product_apply, add_assoc]

/-- The normalization of an array by the statistics of its channels. -/
def norm (g b m v : FVec Ideal S1024 .f32) (P : FVec Ideal S8x1024x32x32 .f32) : FVec Ideal S8x1024x32x32 .f32 :=
  addf (mulf (mulf (subf P (broadcastInDim S8x1024x32x32 ![0, 1, 2, 3] bcast_S1x1024x1x1_S8x1024x32x32_0_1_2_3
      (broadcastInDim S1x1024x1x1 ![1] bcast_S1024_S1x1024x1x1_1 m)))
    (broadcastInDim S8x1024x32x32 ![0, 1, 2, 3] bcast_S1x1024x1x1_S8x1024x32x32_0_1_2_3
      (Host.rsqrt (addf (broadcastInDim S1x1024x1x1 ![1] bcast_S1024_S1x1024x1x1_1 v)
        (broadcastInDim S1x1024x1x1 ![] bcast_S_S1x1024x1x1 (constant S_ .f32 0x3727C5AC#32))))))
    (broadcastInDim S8x1024x32x32 ![0, 1, 2, 3] bcast_S1x1024x1x1_S8x1024x32x32_0_1_2_3
      (broadcastInDim S1x1024x1x1 ![1] bcast_S1024_S1x1024x1x1_1 g)))
    (broadcastInDim S8x1024x32x32 ![0, 1, 2, 3] bcast_S1x1024x1x1_S8x1024x32x32_0_1_2_3
      (broadcastInDim S1x1024x1x1 ![1] bcast_S1024_S1x1024x1x1_1 b))

/-- The normalization read at an index. -/
theorem norm_apply (g b m v : FVec Ideal S1024 .f32) (P : FVec Ideal S8x1024x32x32 .f32) (n : Fin 8) (o : Fin 1024)
    (y x : Fin 32) : norm g b m v P (ix4 n o y x) = Spec.normed g b m v (P (ix4 n o y x)) o := by
  pointwise [norm, Spec.normed]

/-- The rectifier, the 1 x 1 convolution and the row, channels last. -/
def last (H : FVec Ideal S8x1024x32x32 .f32) (W2 : FVec Ideal S425x1024x1x1 .f32) (r : FVec Ideal S425 .f32) :
    FVec Ideal S8x32x32x425 .f32 :=
  transpose S8x32x32x425 [0, 2, 3, 1] (addf (transpose S8x425x32x32 [1, 0, 2, 3]
    (Host.dotGeneral dot_S425x1024_S8x1024x32x32_S425x8x32x32_1_1_0_023_n_n none
      (shapeCast S425x1024 W2 shapeCasts_S425x1024x1x1_S425x1024)
      (select (cmpf .oge H (broadcastInDim S8x1024x32x32 ![] bcast_S_S8x1024x32x32 (constant S_ .f32 0x00000000#32))) H
        (mulf (broadcastInDim S8x1024x32x32 ![] bcast_S_S8x1024x32x32 (constant S_ .f32 0x3DCCCCCD#32)) H)))
    transposes_S425x8x32x32_S8x425x32x32_1_0_2_3)
    (broadcastInDim S8x425x32x32 ![0, 1, 2, 3] bcast_S1x425x1x1_S8x425x32x32_0_1_2_3
      (broadcastInDim S1x425x1x1 ![1] bcast_S425_S1x425x1x1_1 r))) transposes_S8x425x32x32_S8x32x32x425_0_2_3_1

/-- That last part read at an index. -/
theorem last_apply (H : FVec Ideal S8x1024x32x32 .f32) (W2 : FVec Ideal S425x1024x1x1 .f32) (r : FVec Ideal S425 .f32)
    (n : Fin 8) (y x : Fin 32) (o : Fin 425) :
    last H W2 r (ix4 n y x o) = (∑ k : Fin 1024, Block.leaky (H (ix4 n k y x)) * W2 (ix4 o k 0 0)) + r (ix1 o) := by
  pointwise [last, Block.leaky]
  simp only [mul_comm (W2 _)]

variable (m : (ℓ : Loc nD τ sig) → Buf (Elt Ideal) ℓ)

/-- What the reference leaves in its result array. -/
theorem res_eq (c : Dev nD) :
    res_main_v82 m c = Spec.result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  have e : res_main_v82 m c = last (norm (m ((c : Thread nD τ).loc main_arg2)) (m ((c : Thread nD τ).loc main_arg3))
      (m ((c : Thread nD τ).loc main_arg4)) (m ((c : Thread nD τ).loc main_arg5))
      (products (m ((c : Thread nD τ).loc main_arg0)) (m ((c : Thread nD τ).loc main_arg1))))
      (m ((c : Thread nD τ).loc main_arg6)) (m ((c : Thread nD τ).loc main_arg7)) := rfl
  rw [e]
  funext j
  obtain ⟨n, y, x, o, rfl⟩ : ∃ (n : Fin 8) (y x : Fin 32) (o : Fin 425), j = ix4 n y x o := ⟨j 0, j 1, j 2, j 3, eq_ix4 j⟩
  refine (last_apply _ _ _ n y x o).trans ?_
  simp only [norm_apply, products_apply]
  rfl

end Cert.RefValue
end
-- ==== Proof.Pre.lean ====
/-
  The precondition read back: the means and the scales are finite and every shifted variance is positive.
-/
module

public import proofs.«01_k».proof.Proof.Value
public import proofs.«01_k».proof.Proof.Gen.Pre_statistics
public import Idealize.ShloMosaic.Lib.ReduceAll

@[expose] public section

noncomputable section

namespace Cert.Pre

open Idealize.ShloMosaic

/-- The word of positive infinity denotes the largest extended real. -/
theorem top_word : Ideal.ofBits .f32 0x7F800000#32 = ⊤ := by
  simp [Ideal.ofBits, Ideal.ieee]

/-- A test bit that is one says that its proposition holds. -/
theorem of_bit (p : Prop) [Decidable p] (h : BitVec.ofBool (decide p) = 1#1) : p := by
  by_contra hn
  rw [decide_eq_false hn] at h
  exact absurd h (by decide)

/-- Arrays that satisfy the precondition have finite scales and means and positive shifted variances. -/
theorem tame (a0 : FVec Ideal Pre_statistics.S8x96x32x32 .f32) (a1 : FVec Ideal Pre_statistics.S1024x96x3x3 .f32)
    (g b mean v : FVec Ideal Pre_statistics.S1024 .f32) (a6 : FVec Ideal Pre_statistics.S425x1024x1x1 .f32)
    (a7 : FVec Ideal Pre_statistics.S425 .f32)
    (h : Pre_statistics.fn (F := Ideal) a0 a1 g b mean v a6 a7 = fun _ => 1#1) : KernelValue.Tame g mean v := by
  intro o
  have h0 := congrFun h (fun i => i.elim0)
  dsimp only [Pre_statistics.fn, andi] at h0
  obtain ⟨h1, hv⟩ := IntOp.andi_eq_one.1 h0
  obtain ⟨hm, hg⟩ := IntOp.andi_eq_one.1 h1
  have em := Host.reduce_andi_all _ _ _ _ _ hm (ix1 o)
  have eg := Host.reduce_andi_all _ _ _ _ _ hg (ix1 o)
  have ev := Host.reduce_andi_all _ _ _ _ _ hv (ix1 o)
  simp only [cmpf, Host.absf, addf, broadcastInDim, constant, Ideal.cmpf_def, Ideal.cmp_olt, Ideal.cmp_ogt, Ideal.addf_def, Ideal.ofBits_def,
    top_word, Ideal.ofBits_zero_f32] at em eg ev
  exact ⟨of_bit _ em, of_bit _ eg, of_bit _ ev⟩

end Cert.Pre
end
-- ==== Proof.lean ====
/-
  The proof of the certificate's claim: the runs of the three programs, and the equality of the two results.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_statistics
public import proofs.«01_k».proof.Proof.Value
public import proofs.«01_k».proof.Proof.Reference
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.SL.Sem

/-- The reference terminates, leaves its arguments as they were, and every counter at zero. -/
theorem reference_quiet : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run (F := Ideal) m g)

/-- From equal arguments that satisfy the precondition, the kernel and the reference end with equal results. -/
theorem results_agree : Cert.algebraic_KernelIdeal_ReferenceIdeal_pre_statistics := by
  intro m g m' g' hpre hargs
  refine ⟨_, Cert.KernelIdeal.Value.run_blocks (F := Ideal) m g, ?_⟩
  refine (θ_run Cert.ReferenceIdeal.defs _ _).mono (fun _ h c => ⟨(h c).1.trans ?_, (h c).2⟩)
    (Cert.ReferenceIdeal.Value.run (F := Ideal) m' g')
  refine (RefValue.res_eq m' c).trans ?_
  obtain ⟨e0, e1, e2, e3, e4, e5, e6, e7⟩ := hargs c
  rw [e0, e1, e2, e3, e4, e5, e6, e7]
  exact (KernelValue.final m c (Pre.tame _ _ _ _ _ _ _ _ (hpre c))).symm

/-- The certificate's claim. -/
theorem claim : Cert.Claim :=
  ⟨Cert.Kernel.Gen.facts, Cert.KernelIdeal.Gen.facts, Cert.ReferenceIdeal.Gen.facts, Cert.Pre_statistics.Gen.facts,
    fun m g _ => Cert.Kernel.Gen.frame m g,
    fun m g _ => Cert.KernelIdeal.Gen.frame m g,
    fun m g _ => Cert.KernelIdeal.Gen.frame m g,
    reference_quiet,
    fun m g _ => reference_quiet m g trivial,
    trivial,
    results_agree⟩

end Cert.Proof

end
